-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x4096 : Shape := ⟨3, ![4, 512, 4096]⟩
abbrev S11008x4096 : Shape := ⟨2, ![11008, 4096]⟩
abbrev S11008 : Shape := ⟨1, ![11008]⟩
abbrev S1 : Shape := ⟨1, ![1]⟩
abbrev S1x11008 : Shape := ⟨2, ![1, 11008]⟩
abbrev S256x8x11008 : Shape := ⟨3, ![256, 8, 11008]⟩
abbrev S256x4096 : Shape := ⟨2, ![256, 4096]⟩
abbrev S1x256 : Shape := ⟨2, ![1, 256]⟩
abbrev S256x8x256 : Shape := ⟨3, ![256, 8, 256]⟩
abbrev S2048x4096 : Shape := ⟨2, ![2048, 4096]⟩
abbrev S2048x256 : Shape := ⟨2, ![2048, 256]⟩

abbrev nBuf : Space → Nat
  | .hbm => 8
  | .vmem => 8
  | .smem => 2
  | _ => 0

abbrev bufTy : (tb : Table) → Fin (tcTables nBuf tb) → BufTy
  | .hbm, ⟨0, _⟩ => ⟨S4x512x4096, .bf16⟩
  | .hbm, ⟨1, _⟩ => ⟨S11008x4096, .fp8e4m3⟩
  | .hbm, ⟨2, _⟩ => ⟨S11008, .f32⟩
  | .hbm, ⟨3, _⟩ => ⟨S1, .f32⟩
  | .hbm, ⟨4, _⟩ => ⟨S1x11008, .f32⟩
  | .hbm, ⟨5, _⟩ => ⟨S256x8x11008, .bf16⟩
  | .hbm, ⟨6, _⟩ => ⟨S4x512x4096, .fp8e4m3⟩
  | .hbm, ⟨7, _⟩ => ⟨S1, .f32⟩
  | .local _ .vmem, ⟨0, _⟩ => ⟨S4x512x4096, .bf16⟩
  | .local _ .vmem, ⟨1, _⟩ => ⟨S256x4096, .fp8e4m3⟩
  | .local _ .vmem, ⟨2, _⟩ => ⟨S256x4096, .fp8e4m3⟩
  | .local _ .vmem, ⟨3, _⟩ => ⟨S1x256, .f32⟩
  | .local _ .vmem, ⟨4, _⟩ => ⟨S1x256, .f32⟩
  | .local _ .vmem, ⟨5, _⟩ => ⟨S256x8x256, .bf16⟩
  | .local _ .vmem, ⟨6, _⟩ => ⟨S256x8x256, .bf16⟩
  | .local _ .vmem, ⟨7, _⟩ => ⟨S4x512x4096, .fp8e4m3⟩
  | .local _ .smem, ⟨0, _⟩ => ⟨S1, .f32⟩
  | .local _ .smem, ⟨1, _⟩ => ⟨S1, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![43], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x512x4096 : Shape := ⟨3, ![4, 512, 4096]⟩
abbrev S11008x4096 : Shape := ⟨2, ![11008, 4096]⟩
abbrev S11008 : Shape := ⟨1, ![11008]⟩
abbrev S1 : Shape := ⟨1, ![1]⟩
abbrev S_ : Shape := ⟨0, ![]⟩
abbrev S254 : Shape := ⟨1, ![254]⟩
abbrev S1x11008 : Shape := ⟨2, ![1, 11008]⟩
abbrev S256x8x11008 : Shape := ⟨3, ![256, 8, 11008]⟩
abbrev S2048x4096 : Shape := ⟨2, ![2048, 4096]⟩
abbrev S2048x11008 : Shape := ⟨2, ![2048, 11008]⟩

abbrev nBuf : Space → Nat
  | .hbm => 44
  | .vmem => 5
  | .smem => 3
  | _ => 0

abbrev bufTy : (tb : Table) → Fin (tcTables nBuf tb) → BufTy
  | .hbm, ⟨0, _⟩ => ⟨S4x512x4096, .bf16⟩
  | .hbm, ⟨1, _⟩ => ⟨S11008x4096, .fp8e4m3⟩
  | .hbm, ⟨2, _⟩ => ⟨S11008, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S254, .f32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S254, .f32⟩
  | .hbm, ⟨12, _⟩ => ⟨S254, .f32⟩
  | .hbm, ⟨13, _⟩ => ⟨S254, .f32⟩
  | .hbm, ⟨14, _⟩ => ⟨S254, .i1⟩
  | .hbm, ⟨15, _⟩ => ⟨S_, .f32⟩
  | .hbm, ⟨16, _⟩ => ⟨S_, .f32⟩
  | .hbm, ⟨17, _⟩ => ⟨S254, .f32⟩
  | .hbm, ⟨18, _⟩ => ⟨S254, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S1, .f32⟩
  | .hbm, ⟨32, _⟩ => ⟨S1, .i1⟩
  | .hbm, ⟨33, _⟩ => ⟨S1, .i1⟩
  | .hbm, ⟨34, _⟩ => ⟨S1, .i1⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1x11008, .f32⟩
  | .hbm, ⟨41, _⟩ => ⟨S256x8x11008, .bf16⟩
  | .hbm, ⟨42, _⟩ => ⟨S4x512x4096, .fp8e4m3⟩
  | .hbm, ⟨43, _⟩ => ⟨S1, .f32⟩
  | .local _ .vmem, ⟨0, _⟩ => ⟨S4x512x4096, .bf16⟩
  | .local _ .vmem, ⟨1, _⟩ => ⟨S11008x4096, .fp8e4m3⟩
  | .local _ .vmem, ⟨2, _⟩ => ⟨S1x11008, .f32⟩
  | .local _ .vmem, ⟨3, _⟩ => ⟨S256x8x11008, .bf16⟩
  | .local _ .vmem, ⟨4, _⟩ => ⟨S4x512x4096, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_call1_v0 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg7_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x8x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
module

public import proofs.«01_k».proof.Proof.Gen.KernelIdeal.Skeleton
public import proofs.«01_k».proof.Proof.Gen.KernelIdeal.Frame
public import Idealize.ShloMosaic.Lib.Pipeline.TableIdle
public import Idealize.ShloMosaic.Lib.Pipeline.Value
public import Idealize.ShloMosaic.Lib.Claim

/-! The kernel's body on its staging buffers: what each output buffer holds after the first grid point, which quantises
the activations, and after a later point, which multiplies by the codes the first point left. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the body computes -/

/-- One step of the bisection for the exponent field: keep the bit `2^k` when the power of two it leads to is at most `a`. -/
def bisect (a : F .f32) (step b : BitVec 32) : BitVec 32 :=
  Scalar.select (Scalar.cmpf .oge a (Scalar.ofBits .f32 (Scalar.shli (Scalar.addi b step) 23#32))) (Scalar.addi b step) b

/-- The field after the six steps 128, 64, 32, 16, 8, 4. -/
def field6 (a : F .f32) : BitVec 32 :=
  bisect a 4#32 (bisect a 8#32 (bisect a 16#32 (bisect a 32#32 (bisect a 64#32 (bisect a 128#32 0#32)))))

/-- The fp8 codes of the activations `x` at the scale `s`. -/
def codesOf (s : Elt F .f32) (x : Vec F S4x512x4096 .bf16) : FVec F S4x512x4096 .fp8e4m3 :=
  k0_pay1 (Scalar.absf s) (field6 (Scalar.absf s)) (Scalar.addi (field6 (Scalar.absf s)) 2#32) x

/-- The only index of a one-word buffer. -/
abbrev z1 : S1.Idx := Shape.Idx.first (by decide : 0 < S1.numel)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 43 = 0 :=
  (fun t => by
    have ht : t.val < 43 := Nat.lt_of_lt_of_eq t.isLt N_0
    have e0 : (grid0.coords t 0).val = t.val / 1 % 43 := Pipeline.Grid.coords_val t 0 (by decide) rfl
    simp only [cond0_0, k0_cond1, e0]
    word_cmp
   : ∀ t : Fin grid0.N, cond0_0 (grid0.coords t) ↔ t.val % 43 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x512x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)

/-- A buffer written whole by one store holds the stored value. -/
theorem read_one {S : Shape} {κ : Kind} {sp : Space} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, by
    subst h; show y ∈ (Rect.whole S).set; rw [Rect.set_whole]; exact Finset.mem_univ y⟩), View.canon_unit_zero h]

/-- A load of a whole buffer reads the buffer's contents. -/
theorem load_whole {S : Shape} {sp : Space} {e : EltTy} (arg : Memref sig .tc sp S e) (harg : arg.IsWhole) {off : Fin S.rank → Nat}
    (h : off = fun _ => 0) (inb : ∀ a, off a + S.size a ≤ S.size a) (X : S.Idx → Elt F e) :
    arg.view.readAt (Elt F) (Rect.unit off S.size inb).toLoadRect (harg.unread X) = X := by
  rw [View.readAt_eq_ld, harg.read_unread, View.ld_unit_zero h]

theorem first_eq (h : 0 < S1.numel) : Shape.Idx.first h = z1 := rfl
theorem zero3 : (![0, 0, 0] : Fin 3 → ℕ) = fun _ => 0 := by decide
theorem zero2 : (![0, 0] : Fin 2 → ℕ) = fun _ => 0 := by decide
theorem zero1 : (![0] : Fin 1 → ℕ) = fun _ => 0 := by decide

set_option maxHeartbeats 1000000 in
/-- The body at the first point: it leaves the codes of the activations, the scale, and the first output block computed from those codes. -/
theorem bodyA (c : Dev nD) (i : grid0.Coords) (arg1 : Memref sig .tc .smem S1 .f32) (harg1 : arg1.IsWhole) (arg2 : Memref sig .tc .vmem S4x512x4096 .bf16) (harg2 : arg2.IsWhole) (arg3 : Memref sig .tc .vmem S256x4096 .fp8e4m3) (harg3 : arg3.IsWhole) (arg4 : Memref sig .tc .vmem S1x256 .f32) (harg4 : arg4.IsWhole) (arg5 : Memref sig .tc .vmem S256x8x256 .bf16) (harg5 : arg5.IsWhole) (arg6 : Memref sig .tc .vmem S4x512x4096 .fp8e4m3) (harg6 : arg6.IsWhole) (arg7 : Memref sig .tc .smem S1 .f32) (harg7 : arg7.IsWhole) (hc0 : cond0_0 i)
    (x0 : Vec F S1 .f32) (x1 : Vec F S4x512x4096 .bf16) (x2 : Vec F S256x4096 .fp8e4m3) (x3 : Vec F S1x256 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (x0 z1) (codesOf (x0 z1) x1) x2 x3) ∗ owns (c : Thread nD τ) arg6 fullShare (codesOf (x0 z1) x1) ∗ owns (c : Thread nD τ) arg7 fullShare (fun _ => x0 z1)) -∗ K ⟨⟩))
          ⊢ wp frame (wpE (defs₀ (F := F)) Variants.none c none) E (cc0_w8a8_linear i arg1 harg1 arg2 harg2 arg3 harg3 arg4 harg4 arg5 harg5 arg6 harg6 arg7 harg7) K := by
    intro E K
    simp only [cc0_w8a8_linear_eq_skeleton]; unfold cc0_w8a8_linear_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      refine (read_one _ _ zero3 _ _).trans ?_
      rw [load_whole _ harg3 zero2, load_whole _ harg4 zero2, load_whole _ harg1 zero1, load_whole _ harg2 zero3, View.readCov_unit_zero _ zero3, first_eq]
      rfl
    isplitl [H5]
    · iexists _; isplitr; swap; · iexact H5
      ipureintro
      sl_unfold_words
      refine (read_one _ _ zero3 _ _).trans ?_
      rw [load_whole _ harg2 zero3, load_whole _ harg1 zero1, first_eq]
      rfl
    iexists _; isplitr; swap; · iexact H6
    ipureintro
    sl_unfold_words
    refine (read_one _ _ zero1 _ _).trans ?_
    rw [load_whole _ harg1 zero1, first_eq]
    rfl

set_option maxHeartbeats 1000000 in
/-- The body at a later point: it finds the codes and the scale and leaves them, and computes its output block from the codes. -/
theorem bodyB (c : Dev nD) (i : grid0.Coords) (arg1 : Memref sig .tc .smem S1 .f32) (harg1 : arg1.IsWhole) (arg2 : Memref sig .tc .vmem S4x512x4096 .bf16) (harg2 : arg2.IsWhole) (arg3 : Memref sig .tc .vmem S256x4096 .fp8e4m3) (harg3 : arg3.IsWhole) (arg4 : Memref sig .tc .vmem S1x256 .f32) (harg4 : arg4.IsWhole) (arg5 : Memref sig .tc .vmem S256x8x256 .bf16) (harg5 : arg5.IsWhole) (arg6 : Memref sig .tc .vmem S4x512x4096 .fp8e4m3) (harg6 : arg6.IsWhole) (arg7 : Memref sig .tc .smem S1 .f32) (harg7 : arg7.IsWhole) (hc0 : ¬ cond0_0 i)
    (x0 : Vec F S1 .f32) (x1 : Vec F S4x512x4096 .bf16) (x2 : Vec F S256x4096 .fp8e4m3) (x3 : Vec F S1x256 .f32) (x5 : Vec F S4x512x4096 .fp8e4m3) (x6 : Vec F S1 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (x0 z1) x5 x2 x3) ∗ owns (c : Thread nD τ) arg6 fullShare x5 ∗ owns (c : Thread nD τ) arg7 fullShare x6) -∗ K ⟨⟩))
          ⊢ wp frame (wpE (defs₀ (F := F)) Variants.none c none) E (cc0_w8a8_linear i arg1 harg1 arg2 harg2 arg3 harg3 arg4 harg4 arg5 harg5 arg6 harg6 arg7 harg7) K := by
    intro E K
    simp only [cc0_w8a8_linear_eq_skeleton]; unfold cc0_w8a8_linear_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      refine (read_one _ _ zero3 _ _).trans ?_
      rw [load_whole _ harg3 zero2, load_whole _ harg4 zero2, load_whole _ harg6 zero3, load_whole _ harg1 zero1, first_eq]
    isplitl [H5]
    · iexists _; isplitr; · ipureintro; exact harg6.read_unread _
      iexact H5
    iexists _; isplitr; · ipureintro; exact harg7.read_unread _
    iexact H6

/-! ## The pipeline's proof data -/

/-- The first grid point. -/
abbrev p0 : Fin cfg0.N := ⟨0, by decide⟩

/-- The codes, as the first point leaves them. -/
def codesAt (c : Dev nD) : Vec F S4x512x4096 .fp8e4m3 := codesOf ((iblk m c 0 p0 : Vec F S1 .f32) z1) (iblk m c 1 p0)

/-- The scale's block holds the same word at every point, and so does the activations'. -/
theorem iblk_0 (c : Dev nD) (t : Fin cfg0.N) : iblk m c 0 t = iblk m c 0 p0 := rfl
theorem iblk_1 (c : Dev nD) (t : Fin cfg0.N) : iblk m c 1 t = iblk m c 1 p0 := rfl

/-- The output block of point `t`. -/
def yAt (c : Dev nD) (t : Fin cfg0.N) : Vec F S256x8x256 .bf16 :=
  k0_pay2 ((iblk m c 0 p0 : Vec F S1 .f32) z1) (codesAt m c) (iblk m c 2 t) (iblk m c 3 t)

/-- The proof data of the pipeline on core `c`: each input's buffer at its block after every point, the output
    block of the point, and, carried from the first point on, the codes and the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesAt m c
    | ⟨6, _⟩ => fun _ => (iblk m c 0 p0 : Vec F S1 .f32) z1
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = yAt m c t := by dsimp only [dats]
theorem after0_5 (c : Dev nD) (t : Fin cfg0.N) : (dats m 0 c).after 5 t = codesAt m c := by dsimp only [dats]
theorem after0_6 (c : Dev nD) (t : Fin cfg0.N) : (dats m 0 c).after 6 t = fun _ => (iblk m c 0 p0 : Vec F S1 .f32) z1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Window 5 is idle exactly at the points after the first. -/
theorem idle_5 (t : Fin cfg0.N) : cfg0.idle 5 (cfg0.grid.coords t) = decide (t.val ≠ 0) := by
  have ht : t.val < 43 := Nat.lt_of_lt_of_eq t.isLt N_0
  have h := hcond0_0 t
  show (!(k0_cond1 (grid0.coords t) == 1#1)) = _
  by_cases h0 : t.val = 0
  · have hc : k0_cond1 (grid0.coords t) = 1#1 := h.mpr (by omega)
    simp [hc, h0]
  · have hc : ¬ k0_cond1 (grid0.coords t) = 1#1 := fun e => h0 (by have := h.mp e; omega)
    simp [hc, h0]

/-- Window 5's buffer holds nothing of the body's before the first point only. -/
theorem fresh_5 (n : ℕ) (hn : n < cfg0.N) : cfg0.fresh 5 n = decide (n = 0) := by
  refine Pipeline.Cfg.fresh_tab cfg0 5 (fun n => decide (n = 0 ∨ 43 ≤ n)) rfl (fun t => ?_) n (Nat.le_of_lt hn) |>.trans ?_
  · have ht : t.val < 43 := Nat.lt_of_lt_of_eq t.isLt N_0
    have hf := flush0_5 t
    rw [idle_5 t]
    have hfl : (cfg0.win 5).flush t = decide (t.val = 42) := by
      cases h : (cfg0.win 5).flush t
      · exact (decide_eq_false fun e => by rw [hf.mpr (by omega)] at h; exact Bool.noConfusion h).symm
      · exact (decide_eq_true (by have := hf.mp h; omega)).symm
    rw [hfl]
    by_cases h42 : t.val = 42
    · simp [h42]
    · by_cases h0 : t.val = 0
      · simp [h0]
      · simp [h0, h42]; omega
  · have ht : n < 43 := Nat.lt_of_lt_of_eq hn N_0
    simp; omega

/-- After the first point, window 5's buffer holds what the first point left. -/
theorem before0_5 (c : Dev nD) (t : Fin cfg0.N) (ht : t.val ≠ 0) (d) : (dats m 0 c).before 5 t d = (dats m 0 c).after 5 t := by
  rw [(dats m 0 c).before_out_traj 5 rfl (fun _ _ => rfl) (fun t _ _ _ => by rw [after0_5, after0_5]) t.val t rfl d,
    fresh_5 t.val t.isLt, if_neg (by simp [ht]), after0_5, after0_5]

/-- Window 6 is idle exactly at the points after the first. -/
theorem idle_6 (t : Fin cfg0.N) : cfg0.idle 6 (cfg0.grid.coords t) = decide (t.val ≠ 0) := by
  have ht : t.val < 43 := Nat.lt_of_lt_of_eq t.isLt N_0
  have h := hcond0_0 t
  show (!(k0_cond1 (grid0.coords t) == 1#1)) = _
  by_cases h0 : t.val = 0
  · have hc : k0_cond1 (grid0.coords t) = 1#1 := h.mpr (by omega)
    simp [hc, h0]
  · have hc : ¬ k0_cond1 (grid0.coords t) = 1#1 := fun e => h0 (by have := h.mp e; omega)
    simp [hc, h0]

/-- Window 6's buffer holds nothing of the body's before the first point only. -/
theorem fresh_6 (n : ℕ) (hn : n < cfg0.N) : cfg0.fresh 6 n = decide (n = 0) := by
  refine Pipeline.Cfg.fresh_tab cfg0 6 (fun n => decide (n = 0 ∨ 43 ≤ n)) rfl (fun t => ?_) n (Nat.le_of_lt hn) |>.trans ?_
  · have ht : t.val < 43 := Nat.lt_of_lt_of_eq t.isLt N_0
    have hf := flush0_6 t
    rw [idle_6 t]
    have hfl : (cfg0.win 6).flush t = decide (t.val = 42) := by
      cases h : (cfg0.win 6).flush t
      · exact (decide_eq_false fun e => by rw [hf.mpr (by omega)] at h; exact Bool.noConfusion h).symm
      · exact (decide_eq_true (by have := hf.mp h; omega)).symm
    rw [hfl]
    by_cases h42 : t.val = 42
    · simp [h42]
    · by_cases h0 : t.val = 0
      · simp [h0]
      · simp [h0, h42]; omega
  · have ht : n < 43 := Nat.lt_of_lt_of_eq hn N_0
    simp; omega

/-- After the first point, window 6's buffer holds what the first point left. -/
theorem before0_6 (c : Dev nD) (t : Fin cfg0.N) (ht : t.val ≠ 0) (d) : (dats m 0 c).before 6 t d = (dats m 0 c).after 6 t := by
  rw [(dats m 0 c).before_out_traj 6 rfl (fun _ _ => rfl) (fun t _ _ _ => by rw [after0_6, after0_6]) t.val t rfl d,
    fresh_6 t.val t.isLt, if_neg (by simp [ht]), after0_6, after0_6]

/-- Window 4 is never idle. -/
theorem liveAt0_4 : ∀ t : Fin cfg0.N, cfg0.idle 4 (grid0.coords t) = false := fun _ => rfl

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- After the first point the body leaves window 5's buffer at what the first point stored, whether the point writes it back or not. -/
theorem leaves5 (c : Dev nD) (t : Fin cfg0.N) (ht : t.val ≠ 0) :
    owns (c : Thread nD τ) (ms0_5 t) fullShare ((dats m 0 c).after 5 t) ⊢ ((dats m 0 c).leavesExact 5 t : sProp (MT nD τ sig Unit (Elt F) ℕ (UR sig nD τ) ℕ)) := by
  unfold Dat.leavesExact
  rw [idle_5 t, decide_eq_true ht]
  cases (cfg0.win 5).flush t
  · iintro H; iexists (dats m 0 c).after 5 t; rw [before0_5 m c t ht]; iexact H
  · exact .rfl

/-- After the first point the body leaves window 6's buffer at what the first point stored, whether the point writes it back or not. -/
theorem leaves6 (c : Dev nD) (t : Fin cfg0.N) (ht : t.val ≠ 0) :
    owns (c : Thread nD τ) (ms0_6 t) fullShare ((dats m 0 c).after 6 t) ⊢ ((dats m 0 c).leavesExact 6 t : sProp (MT nD τ sig Unit (Elt F) ℕ (UR sig nD τ) ℕ)) := by
  unfold Dat.leavesExact
  rw [idle_6 t, decide_eq_true ht]
  cases (cfg0.win 6).flush t
  · iintro H; iexists (dats m 0 c).after 6 t; rw [before0_6 m c t ht]; iexact H
  · exact .rfl

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 43 := lt_of_lt_of_eq t.isLt (show cfg0.N = 43 from N_0)
  by_cases h0 : t.val % 43 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [idle_5 t, decide_eq_false (fun h => h (by omega))], after0_5]
    rw [show (dats m 0 c).leavesExact 6 t = owns (c : Thread nD τ) (ms0_6 t) fullShare ((dats m 0 c).after 6 t) from by
      unfold Dat.leavesExact; rw [idle_6 t, decide_eq_false (fun h => h (by omega))], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyA c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht0 : t.val ≠ 0 := fun e => h0 (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyB c (grid0.coords t) _ _ _ _ _ _ _ _ _ _ _ _ _ _ (fun h => h0 ((hcond0_0 t).mp h)) (iblk m c 0 t) (iblk m c 1 t) (iblk m c 2 t) (iblk m c 3 t) (codesAt m c) (fun _ => (iblk m c 0 p0 : Vec F S1 .f32) z1)) Set.univ _)
    isplitl [H0]; · iexact H0
    isplitl [H1]; · iexact H1
    isplitl [H2]; · iexact H2
    isplitl [H3]; · iexact H3
    isplitl [H4]; · iexists _; iexact H4
    rw [before0_5 m c t ht0, before0_6 m c t ht0, after0_5, after0_6]
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply leaves5 m c t ht0; rw [after0_5]; iexact H5
    iapply leaves6 m c t ht0; rw [after0_6]; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the whole program: every array of the pipeline ends as the proof data says, and every semaphore
    counter ends at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same, of the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Same.lean ====
module

public import proofs.«01_k».proof.Proof.KernelRun
public import proofs.«01_k».proof.Proof.Gen.Kernel
public import Idealize.ShloMosaic.PureOps.BitExact

/-! The kernel and its idealization are one text (no operation is rewritten), so on words they are the same program, and
the kernel's frame is the idealization's, proved for any floats in `KernelRun`. -/

@[expose] public section

set_option maxRecDepth 16384

noncomputable section

open Idealize.ShloMosaic Idealize.SL.Sem

namespace Cert.Same

local instance : Cert.Kernel.Facts := Cert.Kernel.Gen.facts
local instance : Cert.KernelIdeal.Facts := Cert.KernelIdeal.Gen.facts

/-- The two bodies are one function of the grid point and the buffers. -/
theorem body : @Cert.Kernel.cc0_w8a8_linear Bits _ _ = @Cert.KernelIdeal.cc0_w8a8_linear Bits _ _ := rfl

/-- The two tables of kernel bodies are one: at the only label, the body above. -/
theorem defs₀ : Cert.Kernel.defs₀ (F := Bits) = Cert.KernelIdeal.defs₀ (F := Bits) := by
  refine congrArg (Defs.onTc (nD := 1) (τ := Topo.v7x) (sig := Cert.Kernel.sig) (Val := Elt Bits) (Λ := Cert.Kernel.Λ₀)) ?_
  funext l
  match l with
  | ⟨0, _⟩ => funext ⟨t, s⟩; rfl
  | ⟨n + 1, h⟩ => exact absurd h (Nat.not_lt.2 (Nat.le_add_left _ _))

/-- The two tables with the pipeline's labels are one. -/
theorem defs : Cert.Kernel.defs (F := Bits) = Cert.KernelIdeal.defs (F := Bits) :=
  congrArg (Pipeline.defs (Cert.Kernel.pcfgs (F := Bits))) defs₀

/-- The kernel's frame: the argument arrays end unchanged and every semaphore counter ends at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs]
  exact Cert.KernelIdeal.Run.frame (F := Bits) m g

end Cert.Same

end
-- ==== Proof.RefHost.lean ====
module

public import proofs.«01_k».proof.Proof.Gen.ReferenceIdeal.Value
public import Idealize.ShloMosaic.Lib.StableHlo.Run

/-! What the reference's host lines compute before its kernel runs: the reciprocal of the power of two below the scale. -/

@[expose] public section

set_option maxRecDepth 16384

noncomputable section

namespace Cert.ReferenceIdeal.Host

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ)

/-- The powers of two `2^-126 … 2^127`. -/
def powers : FVec F S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- Those at most the scale's magnitude, 0 elsewhere. -/
def below (s : FVec F S1 .f32) : FVec F S254 .f32 :=
  select (cmpf .ole powers (broadcastInDim S254 ![0] bcast_S1_S254_0 (Host.absf s))) powers
    (broadcastInDim S254 ![] bcast_S_S254 (constant S_ .f32 0x00000000#32))

/-- The largest of them. -/
def largest (s : FVec F S1 .f32) : FVec F S_ .f32 :=
  Host.reduce FloatOps.maximumf (below s) (constant S_ .f32 0xFF800000#32) reducesTo_S254_S_d0 h_S_

/-- Its reciprocal, 0 at the largest power. -/
def recip (s : FVec F S1 .f32) : FVec F S_ .f32 :=
  select (cmpf .oeq (largest s) (constant S_ .f32 0x7F000000#32)) (constant S_ .f32 0x00000000#32)
    (Host.divf (constant S_ .f32 0x3F800000#32) (largest s))

/-- The reciprocal scale: 2 where no power is below the scale or the scale is infinite. -/
def inv (s : FVec F S1 .f32) : FVec F S1 .f32 :=
  select (ori (broadcastInDim S1 ![] bcast_S_S1 (cmpf .oeq (largest s) (constant S_ .f32 0x00000000#32)))
      (cmpf .oeq (Host.absf s) (broadcastInDim S1 ![] bcast_S_S1 (constant S_ .f32 0x7F800000#32))))
    (broadcastInDim S1 ![] bcast_S_S1 (constant S_ .f32 0x40000000#32)) (broadcastInDim S1 ![] bcast_S_S1 (recip s))

/-- The kernel finds the reciprocal scale in its second operand. -/
theorem V_main_v19 (c : Dev nD) : V m c main_v19 = inv (m ((c : Thread nD τ).loc main_arg3)) := by
  unfold V
  simp only [List.flatten_cons, List.flatten_nil, List.append_nil, List.cons_append, List.nil_append]
  after_results
  rfl

/-- The kernel finds the weight scales, as one row, in its last operand. -/
theorem V_main_v20 (c : Dev nD) :
    V m c main_v20 = shapeCast S1x11008 (m ((c : Thread nD τ).loc main_arg2)) shapeCasts_S11008_S1x11008 := by
  unfold V
  simp only [List.flatten_cons, List.flatten_nil, List.append_nil, List.cons_append, List.nil_append]
  after_results
  rfl

end Cert.ReferenceIdeal.Host

end
-- ==== Proof.Exponent.lean ====
module

public import proofs.«01_k».proof.Proof.KernelRun
public import proofs.«01_k».proof.Proof.RefHost
public import Idealize.ShloMosaic.PureOps.Ideal.Laws

/-! On the extended reals, the kernel's reciprocal scale (a bisection over the powers of two) is the reference's (the largest
power of two at most the scale, inverted). -/

@[expose] public section

set_option maxRecDepth 16384

noncomputable section

namespace Cert.Exponent

open Idealize.ShloMosaic

/-- What the word with exponent field `n` and nothing else denotes. -/
def q (n : Nat) : EReal := Scalar.ofBits (F := Ideal) .f32 (Scalar.shli (BitVec.ofNat 32 n) 23#32)

/-- The three fields of such a word: sign clear, exponent `n`, significand 0. -/
theorem fields : ∀ n : Fin 256, (Scalar.shli (BitVec.ofNat 32 n.val) 23#32).extractLsb' 31 1 = 0#1 ∧
    ((Scalar.shli (BitVec.ofNat 32 n.val) 23#32).extractLsb' 23 8).toNat = n.val ∧
    ((Scalar.shli (BitVec.ofNat 32 n.val) 23#32).extractLsb' 0 23).toNat = 0 := by
  decide +kernel

/-- A word with sign clear and significand 0 denotes 0 at exponent field 0, infinity at 255 and a power of two between. -/
theorem ieee_eq (w : BitVec 32) (n : Nat) (h1 : w.extractLsb' 31 1 = 0#1) (h2 : (w.extractLsb' 23 8).toNat = n)
    (h3 : (w.extractLsb' 0 23).toNat = 0) :
    Ideal.ieee 8 23 w = if n = 255 then ⊤ else if n = 0 then 0 else (((2 : ℝ) ^ ((n : ℤ) - 127) : ℝ) : EReal) := by
  unfold Ideal.ieee
  have e31 : w.extractLsb' (8 + 23) 1 = 0#1 := h1
  have hb : ((0#1 : BitVec 1) == 1#1) = false := rfl
  rw [e31, h2, h3, hb]
  dsimp only
  have e255 : (2 ^ 8 - 1 : ℕ) = 255 := by norm_num
  rw [e255]
  by_cases e : n = 255
  · rw [if_pos e, if_pos e]
    simp
  · rw [if_neg e, if_neg e]
    by_cases e0 : n = 0
    · rw [if_pos e0, if_pos e0]
      simp
    · rw [if_neg e0, if_neg e0]
      congr 1
      rw [if_neg (by decide : ¬(false = true)), one_mul, add_zero]
      push_cast
      rw [show (8388608 : ℝ) = 2 ^ (23 : ℤ) by norm_num, ← zpow_add₀ (by norm_num)]
      congr 1
      ring

/-- The word denotes 0 at exponent field 0, infinity at 255 and a power of two between. -/
theorem q_eq (n : Nat) (h : n < 256) :
    q n = if n = 255 then ⊤ else if n = 0 then 0 else (((2 : ℝ) ^ ((n : ℤ) - 127) : ℝ) : EReal) := by
  obtain ⟨h1, h2, h3⟩ := fields ⟨n, h⟩
  exact ieee_eq (Scalar.shli (BitVec.ofNat 32 n) 23#32) n h1 h2 h3

theorem q_zero : q 0 = 0 := by rw [q_eq 0 (by norm_num)]; simp
theorem q_top : q 255 = ⊤ := by rw [q_eq 255 (by norm_num)]; simp

/-- At the fields between, a power of two. -/
theorem q_mid (n : Nat) (h0 : 0 < n) (h : n < 255) : q n = (((2 : ℝ) ^ ((n : ℤ) - 127) : ℝ) : EReal) := by
  rw [q_eq n (by omega), if_neg (by omega), if_neg (by omega)]

/-- A larger exponent field denotes a larger number. -/
theorem q_lt (i j : Nat) (h : i < j) (hj : j < 256) : q i < q j := by
  by_cases e : j = 255
  · subst e
    rw [q_top]
    by_cases e0 : i = 0
    · subst e0
      rw [q_zero]
      exact EReal.zero_lt_top
    · rw [q_mid i (by omega) h]
      exact EReal.coe_lt_top _
  · rw [q_mid j (by omega) (by omega)]
    by_cases e0 : i = 0
    · subst e0
      rw [q_zero]
      exact_mod_cast (by positivity : (0 : ℝ) < 2 ^ ((j : ℤ) - 127))
    · rw [q_mid i (by omega) (by omega)]
      exact_mod_cast zpow_lt_zpow_right₀ (by norm_num : (1 : ℝ) < 2) (by omega : (i : ℤ) - 127 < (j : ℤ) - 127)

theorem q_le (i j : Nat) (h : i ≤ j) (hj : j < 256) : q i ≤ q j := by
  rcases Nat.lt_or_eq_of_le h with h | h
  · exact (q_lt i j h hj).le
  · rw [h]

/-- Field `b` is at most `a`, and the field `r` further up is above `a` or past the last one. -/
def Within (a : EReal) (b r : Nat) : Prop := q b ≤ a ∧ (b + r = 256 ∨ b + r < 256 ∧ a < q (b + r))

/-- One step of the bisection halves the distance. -/
theorem bisect_within (a : EReal) (b s : Nat) (hs : 0 < s) (h : Within a b (s + s)) :
    ∃ b' : Nat, Cert.KernelIdeal.Run.bisect (F := Ideal) a (BitVec.ofNat 32 s) (BitVec.ofNat 32 b) = BitVec.ofNat 32 b' ∧
      Within a b' s := by
  obtain ⟨h1, h2⟩ := h
  have hadd : Scalar.addi (BitVec.ofNat 32 b) (BitVec.ofNat 32 s) = BitVec.ofNat 32 (b + s) :=
    (BitVec.ofNat_add b s).symm
  by_cases hq : q (b + s) ≤ a
  · refine ⟨b + s, ?_, hq, ?_⟩
    · show Scalar.select (BitVec.ofBool (decide (Scalar.ofBits (F := Ideal) .f32
        (Scalar.shli (Scalar.addi (BitVec.ofNat 32 b) (BitVec.ofNat 32 s)) 23#32) ≤ a))) _ _ = _
      rw [hadd]
      rw [decide_eq_true (show Scalar.ofBits (F := Ideal) .f32 (Scalar.shli (BitVec.ofNat 32 (b + s)) 23#32) ≤ a from hq)]
      rfl
    · rcases h2 with h2 | h2
      · left; omega
      · right; rw [Nat.add_assoc]; exact h2
  · refine ⟨b, ?_, h1, Or.inr ⟨?_, not_le.mp hq⟩⟩
    · show Scalar.select (BitVec.ofBool (decide (Scalar.ofBits (F := Ideal) .f32
        (Scalar.shli (Scalar.addi (BitVec.ofNat 32 b) (BitVec.ofNat 32 s)) 23#32) ≤ a))) _ _ = _
      rw [hadd]
      rw [decide_eq_false (show ¬ Scalar.ofBits (F := Ideal) .f32 (Scalar.shli (BitVec.ofNat 32 (b + s)) 23#32) ≤ a from hq)]
      rfl
    · rcases h2 with h2 | h2 <;> omega

/-- The eight steps of the kernel's bisection. -/
def field (a : EReal) : BitVec 32 :=
  Cert.KernelIdeal.Run.bisect (F := Ideal) a 1#32
    (Cert.KernelIdeal.Run.bisect (F := Ideal) a 2#32 (Cert.KernelIdeal.Run.field6 (F := Ideal) a))

/-- They find the largest exponent field whose power of two is at most `a`. -/
theorem field_eq (a : EReal) (ha : 0 ≤ a) :
    ∃ n : Nat, field a = BitVec.ofNat 32 n ∧ n < 256 ∧ q n ≤ a ∧ (n = 255 ∨ a < q (n + 1)) := by
  have h0 : Within a 0 (128 + 128) := ⟨by rw [q_zero]; exact ha, Or.inl rfl⟩
  obtain ⟨b1, e1, h1⟩ := bisect_within a 0 128 (by norm_num) h0
  obtain ⟨b2, e2, h2⟩ := bisect_within a b1 64 (by norm_num) h1
  obtain ⟨b3, e3, h3⟩ := bisect_within a b2 32 (by norm_num) h2
  obtain ⟨b4, e4, h4⟩ := bisect_within a b3 16 (by norm_num) h3
  obtain ⟨b5, e5, h5⟩ := bisect_within a b4 8 (by norm_num) h4
  obtain ⟨b6, e6, h6⟩ := bisect_within a b5 4 (by norm_num) h5
  obtain ⟨b7, e7, h7⟩ := bisect_within a b6 2 (by norm_num) h6
  obtain ⟨b8, e8, h8⟩ := bisect_within a b7 1 (by norm_num) h7
  refine ⟨b8, ?_, ?_, h8.1, ?_⟩
  · unfold field Cert.KernelIdeal.Run.field6
    rw [e1, e2, e3, e4, e5, e6, e7, e8]
  · rcases h8.2 with h | h <;> omega
  · rcases h8.2 with h | h
    · left; omega
    · right; exact h.2

/-- The kernel's reciprocal scale as a function of the exponent field. -/
def unscale (b : BitVec 32) : Ideal .f32 :=
  Scalar.ofBits .f32 (Scalar.shli (Scalar.addi (Scalar.subi 1#32
    (Scalar.select (Scalar.ori (Scalar.cmpi .eq b 0#32) (Scalar.cmpi .eq b 255#32)) 0#32 (Scalar.subi b 126#32))) 127#32) 23#32)

/-- The exponent field of the reciprocal scale. -/
theorem unscale_field : ∀ n : Fin 256, Scalar.addi (Scalar.subi 1#32
    (Scalar.select (Scalar.ori (Scalar.cmpi .eq (BitVec.ofNat 32 n.val) 0#32) (Scalar.cmpi .eq (BitVec.ofNat 32 n.val) 255#32)) 0#32
      (Scalar.subi (BitVec.ofNat 32 n.val) 126#32))) 127#32
    = BitVec.ofNat 32 (if n.val = 0 ∨ n.val = 255 then 128 else 254 - n.val) := by
  decide +kernel

theorem unscale_eq (n : Nat) (h : n < 256) :
    unscale (BitVec.ofNat 32 n) = q (if n = 0 ∨ n = 255 then 128 else 254 - n) := by
  have := unscale_field ⟨n, h⟩
  dsimp only at this
  unfold unscale q
  rw [this]

/-- The kernel's codes are the reference's at the reciprocal scale the bisection finds. -/
theorem codesOf_eq (s : Elt Ideal .f32) (x : Vec Ideal Cert.KernelIdeal.S4x512x4096 .bf16) :
    Cert.KernelIdeal.Run.codesOf s x = Cert.ReferenceIdeal.Gen.k0_pay1 x (unscale (field (Scalar.absf (F := Ideal) (φ := .f32) s))) := by
  unfold Cert.KernelIdeal.Run.codesOf field
  generalize Scalar.absf (F := Ideal) (φ := .f32) s = a
  generalize Cert.KernelIdeal.Run.field6 (F := Ideal) a = b
  rfl

/-! ### The reference's side -/

section Reference
open Cert.ReferenceIdeal Cert.ReferenceIdeal.Host

/-- The integers `-126 … 127` the reference raises two to. -/
theorem expo : ∀ i : Fin 254, (4294967170#32 + BitVec.ofNat 32 i.val).toInt = (i.val : ℤ) - 126 := by
  decide +kernel

/-- The reference's list of powers is the kernel's, without the first (0) and the last (infinity). -/
theorem powers_eq (i : S254.Idx) : powers (F := Ideal) i = q ((i 0).val + 1) := by
  have hi : (i 0).val < 254 := (i 0).isLt
  have h2 : Ideal.ofBits .f32 0x40000000#32 = ((2 : ℝ) : EReal) := by
    simp [Ideal.ofBits, Ideal.ieee, -EReal.coe_mul]; norm_num
  show Ideal.pow (Ideal.ofBits .f32 0x40000000#32) ((((4294967170#32 + BitVec.ofNat 32 (i 0).val).toInt : ℤ) : ℝ) : EReal) = _
  rw [h2, expo ⟨(i 0).val, hi⟩, Ideal.pow_coe_coe, q_mid _ (by omega) (by omega)]
  congr 1
  show (2 : ℝ) ^ ((((i 0).val : ℤ) - 126 : ℤ) : ℝ) = _
  rw [Real.rpow_intCast]
  congr 1
  push_cast
  ring

/-- What the reference keeps of a power: itself if it is at most the scale, 0 if not. -/
theorem below_eq (s : FVec Ideal S1 .f32) (z : S1.Idx) (i : S254.Idx) :
    below s i = if q ((i 0).val + 1) ≤ max (s z) (-(s z)) then q ((i 0).val + 1) else 0 := by
  have hz : ∀ z' : S1.Idx, s z' = s z := fun z' => by
    congr 1
    funext a
    apply Fin.ext
    match a with
    | ⟨0, _⟩ =>
      have h1 : (z' 0).val < 1 := (z' 0).isLt
      have h2 : (z 0).val < 1 := (z 0).isLt
      show (z' 0).val = (z 0).val
      omega
  show Scalar.select (BitVec.ofBool (decide (powers (F := Ideal) i ≤ max (s _) (-(s _))))) (powers (F := Ideal) i)
    (Ideal.ofBits .f32 0x00000000#32) = _
  rw [hz, powers_eq, Ideal.ofBits_zero_f32]
  by_cases h : q ((i 0).val + 1) ≤ max (s z) (-(s z))
  · rw [if_pos h, decide_eq_true h]
    rfl
  · rw [if_neg h, decide_eq_false h]
    rfl

/-- The largest power of two at most the scale has the exponent field the bisection finds, or one less where that is the
last field. -/
theorem largest_eq (s : FVec Ideal S1 .f32) (z : S1.Idx) (j : S_.Idx) (n : Nat) (hn : n < 256)
    (h1 : q n ≤ max (s z) (-(s z))) (h2 : n = 255 ∨ max (s z) (-(s z)) < q (n + 1)) :
    largest s j = q (min n 254) := by
  unfold largest
  rw [show (FloatOps.maximumf : Ideal .f32 → Ideal .f32 → Ideal .f32) = max from rfl, Host.reduce_eq_fold]
  have hinit : constant (F := Ideal) S_ .f32 0xFF800000#32 (Shape.Idx.first Gen.h_S_) = ⊥ := by
    show Ideal.ofBits .f32 0xFF800000#32 = ⊥
    simp [Ideal.ofBits, Ideal.ieee]
  rw [hinit]
  have hall : ∀ i : S254.Idx, Gen.reducesTo_S254_S_d0.drop i = j := fun i => funext fun a => a.elim0
  apply le_antisymm
  · rw [Finset.fold_max_le]
    refine ⟨bot_le, fun i _ => ?_⟩
    have hi : (i 0).val < 254 := (i 0).isLt
    rw [below_eq s z i]
    by_cases h : q ((i 0).val + 1) ≤ max (s z) (-(s z))
    · rw [if_pos h]
      refine q_le _ _ ?_ (by omega)
      rcases h2 with h2 | h2
      · omega
      · by_contra hc
        exact absurd (lt_of_le_of_lt h h2) (not_lt.mpr (q_le _ _ (by omega) (by omega)))
    · rw [if_neg h, ← q_zero]
      exact q_le _ _ (by omega) (by omega)
  · rw [Finset.le_fold_max]
    right
    let i : S254.Idx := fun a => ⟨min n 254 - 1, by match a with | ⟨0, _⟩ => show min n 254 - 1 < 254; omega⟩
    have hi : (i 0).val = min n 254 - 1 := rfl
    refine ⟨i, Finset.mem_filter.mpr ⟨Finset.mem_univ _, hall i⟩, ?_⟩
    rw [below_eq s z i, hi]
    by_cases h0 : n = 0
    · subst h0
      rw [show min 0 254 = 0 from rfl, q_zero]
      split
      · rw [← q_zero]
        exact q_le _ _ (by omega) (by omega)
      · exact le_refl _
    · rw [show min n 254 - 1 + 1 = min n 254 by omega, if_pos ((q_le _ _ (by omega) (by omega)).trans h1)]

theorem ofBits_top : Ideal.ofBits .f32 0x7F800000#32 = ⊤ := by simp [Ideal.ofBits, Ideal.ieee]

/-- The reference's reciprocal scale is the kernel's. -/
theorem inv_eq (s : FVec Ideal S1 .f32) (z : S1.Idx) :
    Host.inv s z = unscale (field (max (s z) (-(s z)))) := by
  have ha : 0 ≤ max (s z) (-(s z)) := by
    rcases le_total 0 (s z) with h | h
    · exact le_max_of_le_left h
    · exact le_max_of_le_right (EReal.neg_nonneg.mpr h)
  obtain ⟨n, e, hn, h1, h2⟩ := field_eq _ ha
  have hL : ∀ j : S_.Idx, largest s j = q (min n 254) := fun j => largest_eq s z j n hn h1 h2
  have c254 : Ideal.ofBits .f32 0x7F000000#32 = q 254 := rfl
  have c128 : Ideal.ofBits .f32 0x40000000#32 = q 128 := rfl
  have c127 : Ideal.ofBits .f32 0x3F800000#32 = 1 := by
    simp [Ideal.ofBits, Ideal.ieee, -EReal.coe_mul]; norm_num
  have hr : ∀ j : S_.Idx, recip s j = if n = 254 ∨ n = 255 then 0 else Ideal.div 1 (q n) := fun j => by
    show Scalar.select (BitVec.ofBool (decide (largest s j = Ideal.ofBits .f32 0x7F000000#32)))
      (Ideal.ofBits .f32 0x00000000#32) (Ideal.div (Ideal.ofBits .f32 0x3F800000#32) (largest s j)) = _
    rw [hL, c254, c127, Ideal.ofBits_zero_f32]
    by_cases h : n = 254 ∨ n = 255
    · rw [if_pos h, decide_eq_true (by congr 1; omega)]
      rfl
    · rw [if_neg h, decide_eq_false (fun hc => absurd hc (q_lt _ _ (by omega) (by omega)).ne),
        show min n 254 = n by omega]
      rfl
  have key : Host.inv s z = if n = 0 ∨ n = 255 then q 128 else if n = 254 then 0 else Ideal.div 1 (q n) := by
    have habs : ∀ b c : Bool, Scalar.ori (BitVec.ofBool b) (BitVec.ofBool c) = BitVec.ofBool (b || c) := by decide
    have step : ∀ j : S_.Idx, Scalar.select (Scalar.ori
        (BitVec.ofBool (decide (largest s j = Ideal.ofBits .f32 0x00000000#32)))
        (BitVec.ofBool (decide (max (s z) (-(s z)) = Ideal.ofBits .f32 0x7F800000#32))))
        (Ideal.ofBits .f32 0x40000000#32) (recip s j)
        = if n = 0 ∨ n = 255 then q 128 else if n = 254 then 0 else Ideal.div 1 (q n) := fun j => by
      rw [habs, hL, hr, ofBits_top, Ideal.ofBits_zero_f32, c128]
      by_cases h : n = 0 ∨ n = 255
      · rw [if_pos h]
        have : (decide (q (min n 254) = 0) || decide (max (s z) (-(s z)) = ⊤)) = true := by
          rcases h with h | h
          · subst h
            rw [show min 0 254 = 0 from rfl, q_zero]
            simp
          · subst h
            rw [q_top, top_le_iff] at h1
            rw [h1]
            simp
        rw [this]
        rfl
      · rw [if_neg h]
        have hlt : max (s z) (-(s z)) ≠ ⊤ := by
          rcases h2 with h2 | h2
          · omega
          · exact (lt_of_lt_of_le h2 le_top).ne
        have h0 : q (min n 254) ≠ 0 := by
          rw [← q_zero]
          exact (q_lt _ _ (by omega) (by omega)).ne'
        have : (decide (q (min n 254) = 0) || decide (max (s z) (-(s z)) = ⊤)) = false := by
          rw [decide_eq_false h0, decide_eq_false hlt]
          rfl
        rw [this]
        show (if n = 254 ∨ n = 255 then (0 : EReal) else Ideal.div 1 (q n)) = _
        by_cases h' : n = 254
        · rw [if_pos h', if_pos (Or.inl h')]
        · rw [if_neg h', if_neg (by omega)]
    exact step _
  rw [key, e, unscale_eq n hn]
  by_cases h : n = 0 ∨ n = 255
  · rw [if_pos h, if_pos h]
  · rw [if_neg h, if_neg h]
    by_cases h' : n = 254
    · rw [if_pos h', h', q_zero]
    · rw [if_neg h', q_mid n (by omega) (by omega), q_mid (254 - n) (by omega) (by omega),
        Ideal.div_coe (by positivity), one_mul]
      congr 1
      rw [one_div, ← zpow_neg]
      congr 1
      omega

/-- The kernel's codes are the reference's. -/
theorem codes_eq (s : FVec Ideal S1 .f32) (z : S1.Idx) (x : Vec Ideal Cert.KernelIdeal.S4x512x4096 .bf16) :
    Cert.KernelIdeal.Run.codesOf (s z) x = Cert.ReferenceIdeal.Gen.k0_pay1 x (Host.inv s z) := by
  rw [codesOf_eq, inv_eq s z]
  rfl

end Reference

end Cert.Exponent

end
-- ==== Proof.Product.lean ====
module

public import proofs.«01_k».proof.Proof.Gen.KernelIdeal.Skeleton
public import proofs.«01_k».proof.Proof.Gen.ReferenceIdeal.Skeleton
public import Idealize.ShloMosaic.Lib.MatmulPlain
public import Idealize.ShloMosaic.Lib.ValueLayout
public import Idealize.ShloMosaic.Lib.Pipeline.Value

/-! The matrix product at one element, in the kernel and in the reference: the sum over the contracted axis of codes times
weight codes, times the product of the two scales. -/

@[expose] public section

set_option maxRecDepth 16384

noncomputable section

namespace Cert.Product

open Idealize.ShloMosaic Idealize.ShloMosaic.ValueIdx
open scoped BigOperators

abbrev Codes : Shape := ⟨3, ![4, 512, 4096]⟩
abbrev Rows : Shape := ⟨2, ![2048, 4096]⟩

/-- Row `8 p + q` of the flattened result. -/
def row (p : Fin 256) (q : Fin 8) : Fin 2048 := ⟨8 * p.val + q.val, by omega⟩

/-- The position `(p, q, n)` of the result is the position `(8 p + q, n)` of the flat product. -/
theorem flat (N : ℕ) (h : (⟨2, ![2048, N]⟩ : Shape).ShapeCasts ⟨3, ![256, 8, N]⟩) (p : Fin 256) (q : Fin 8) (n : Fin N) :
    Shape.reshapeEquiv h (ix3 p q n) = ix2 (row p q) n := by
  refine Shape.reshapeEquiv_eq_of_rowMajor h ?_
  rw [Shape.rowMajor_val_three, Shape.rowMajor_val_two]
  show (8 * p.val + q.val) * N + n.val = (p.val * 8 + q.val) * N + n.val
  rw [Nat.mul_comm 8]

/-- One element of the product, from the flat codes, one row of weight codes, and the two scales. -/
def elem (codes : Codes.Idx → EReal) (hc : Codes.ShapeCasts Rows) (p : Fin 256) (q : Fin 8) (w : Fin 4096 → EReal) (s ws : EReal) : EReal :=
  (0 + ∑ k : Fin 4096, shapeCast Rows codes hc (ix2 (row p q) k) * w k) * (s * ws)

/-- The kernel's output block at an element. -/
theorem kernel_elem (s : Elt Ideal .f32) (codes : Vec Ideal Cert.KernelIdeal.S4x512x4096 .fp8e4m3)
    (w : Vec Ideal Cert.KernelIdeal.S256x4096 .fp8e4m3) (ws : Vec Ideal Cert.KernelIdeal.S1x256 .f32)
    (hc : Codes.ShapeCasts Rows) (p : Fin 256) (q : Fin 8) (n : Fin 256) :
    Cert.KernelIdeal.Gen.k0_pay2 s codes w ws (ix3 p q n) = elem codes hc p q (fun k => w (ix2 n k)) s (ws (ix2 0 n)) := by
  unfold Cert.KernelIdeal.Gen.k0_pay2 elem
  simp only [shapeCast_self]
  show (FloatOps.matmul (F := Ideal) (DotDims.transposedRhs 2048 4096 256) none _ _ _ (Shape.reshapeEquiv _ (ix3 p q n)))
    * (broadcastTo _ _ _ (Shape.reshapeEquiv _ (ix3 p q n)) : EReal) = _
  rw [flat 256, Ideal.matmul_transposedRhs_apply, broadcastTo_1b_ab_apply]
  rw [show (constant (F := Ideal) Cert.KernelIdeal.S2048x256 .f32 0x00000000#32) (ix2 (row p q) n) = 0 from Ideal.ofBits_zero_f32]
  rfl

/-- The reference's result at an element. -/
theorem reference_elem (x : Vec Ideal Cert.ReferenceIdeal.S4x512x4096 .bf16) (inv : Elt Ideal .f32)
    (w : Vec Ideal Cert.ReferenceIdeal.S11008x4096 .fp8e4m3) (s : Elt Ideal .f32) (ws : Vec Ideal Cert.ReferenceIdeal.S1x11008 .f32)
    (hc : Codes.ShapeCasts Rows) (p : Fin 256) (q : Fin 8) (n : Fin 11008) :
    Cert.ReferenceIdeal.Gen.k0_pay2 x inv w s ws (ix3 p q n)
      = elem (Cert.ReferenceIdeal.Gen.k0_pay1 x inv) hc p q (fun k => w (ix2 n k)) s (ws (ix2 0 n)) := by
  unfold Cert.ReferenceIdeal.Gen.k0_pay2 elem
  simp only [shapeCast_self]
  show (FloatOps.matmul (F := Ideal) (DotDims.transposedRhs 2048 4096 11008) none _ _ _ (Shape.reshapeEquiv _ (ix3 p q n)))
    * (broadcastTo _ _ _ (Shape.reshapeEquiv _ (ix3 p q n)) : EReal) = _
  rw [flat 11008, Ideal.matmul_transposedRhs_apply, broadcastTo_1b_ab_apply]
  rw [show (constant (F := Ideal) Cert.ReferenceIdeal.S2048x11008 .f32 0x00000000#32) (ix2 (row p q) n) = 0 from Ideal.ofBits_zero_f32]
  rfl

/-- A block of the kernel's result is the reference's result there, when the codes agree and the block's weight rows and
scales are the reference's. -/
theorem elem_eq (s : Elt Ideal .f32) (codes : Vec Ideal Cert.KernelIdeal.S4x512x4096 .fp8e4m3)
    (wb : Vec Ideal Cert.KernelIdeal.S256x4096 .fp8e4m3) (wsb : Vec Ideal Cert.KernelIdeal.S1x256 .f32)
    (x : Vec Ideal Cert.ReferenceIdeal.S4x512x4096 .bf16) (inv : Elt Ideal .f32)
    (w : Vec Ideal Cert.ReferenceIdeal.S11008x4096 .fp8e4m3) (ws : Vec Ideal Cert.ReferenceIdeal.S1x11008 .f32)
    (hcodes : codes = Cert.ReferenceIdeal.Gen.k0_pay1 x inv) (p : Fin 256) (q : Fin 8) (n : Fin 256) (n' : Fin 11008)
    (hw : ∀ k : Fin 4096, wb (ix2 n k) = w (ix2 n' k)) (hws : wsb (ix2 0 n) = ws (ix2 0 n')) :
    Cert.KernelIdeal.Gen.k0_pay2 s codes wb wsb (ix3 p q n) = Cert.ReferenceIdeal.Gen.k0_pay2 x inv w s ws (ix3 p q n') := by
  have hc : Codes.ShapeCasts Rows := Cert.ReferenceIdeal.Gen.shapeCasts_S4x512x4096_S2048x4096
  rw [kernel_elem s codes wb wsb hc, reference_elem x inv w s ws hc, hcodes, hws]
  congr 1
  funext k
  exact hw k

end Cert.Product

end
-- ==== Proof.KernelArrays.lean ====
module

public import proofs.«01_k».proof.Proof.Exponent
public import proofs.«01_k».proof.Proof.Product

/-! The kernel's three result arrays after its run, on the extended reals: the reference's functions of the kernel's arguments. -/

@[expose] public section

set_option maxRecDepth 16384

noncomputable section

namespace Cert.KernelIdeal.Arrays

open Cert.KernelIdeal Cert.KernelIdeal.Gen Cert.KernelIdeal.Run
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Which part of its array each window's block is -/

theorem idx0 : ∀ t : Fin cfg0.N, win0_0.index t (0 : Fin 1) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 3) = 0 ∧ win0_4.index t (1 : Fin 3) = 0 ∧ win0_4.index t (2 : Fin 3) = t.val :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 1) = 0 := (by decide +kernel : ∀ t : Fin grid0.N, _)

/-- Column `n` of column block `t`. -/
def col (t : Fin cfg0.N) (n : Fin 256) : Fin 11008 :=
  ⟨256 * t.val + n.val, by have : t.val < 43 := Nat.lt_of_lt_of_eq t.isLt N_0; omega⟩

theorem emb0 (t : Fin cfg0.N) (j : S1.Idx) : ((cfg0.win 0).blk t).view.emb j = j := by
  have e0 := idx0 t
  funext a; apply Fin.ext
  match a with
  | ⟨0, _⟩ => show win0_0.index t (0 : Fin 1) * 1 + 1 * (j 0).val = (j 0).val; omega

theorem emb1 (t : Fin cfg0.N) (j : S4x512x4096.Idx) : ((cfg0.win 1).blk t).view.emb j = j := by
  obtain ⟨e0, e1, e2⟩ := idx1 t
  funext a; apply Fin.ext
  match a with
  | ⟨0, _⟩ => show win0_1.index t (0 : Fin 3) * 4 + 1 * (j 0).val = (j 0).val; omega
  | ⟨1, _⟩ => show win0_1.index t (1 : Fin 3) * 512 + 1 * (j 1).val = (j 1).val; omega
  | ⟨2, _⟩ => show win0_1.index t (2 : Fin 3) * 4096 + 1 * (j 2).val = (j 2).val; omega

/-- The weight block of point `t` is 256 rows of the weight. -/
theorem emb2 (t : Fin cfg0.N) (n : Fin 256) (k : Fin 4096) :
    ((cfg0.win 2).blk t).view.emb (ix2 n k) = (ix2 (col t n) k : S11008x4096.Idx) := by
  obtain ⟨e0, e1⟩ := idx2 t
  funext a; apply Fin.ext
  match a with
  | ⟨0, _⟩ => show win0_2.index t (0 : Fin 2) * 256 + 1 * n.val = 256 * t.val + n.val; omega
  | ⟨1, _⟩ => show win0_2.index t (1 : Fin 2) * 4096 + 1 * k.val = k.val; omega

/-- The block of weight scales of point `t` is 256 of the weight scales. -/
theorem emb3 (t : Fin cfg0.N) (z : Fin 1) (n : Fin 256) :
    ((cfg0.win 3).blk t).view.emb (ix2 z n) = (ix2 z (col t n) : S1x11008.Idx) := by
  obtain ⟨e0, e1⟩ := idx3 t
  funext a; apply Fin.ext
  match a with
  | ⟨0, _⟩ => show win0_3.index t (0 : Fin 2) * 1 + 1 * z.val = z.val; omega
  | ⟨1, _⟩ => show win0_3.index t (1 : Fin 2) * 256 + 1 * n.val = 256 * t.val + n.val; omega

/-- The result block of point `t` is 256 columns of the result. -/
theorem emb4 (t : Fin cfg0.N) (p : Fin 256) (q : Fin 8) (n : Fin 256) :
    ((cfg0.win 4).blk t).view.emb (ix3 p q n) = (ix3 p q (col t n) : S256x8x11008.Idx) := by
  obtain ⟨e0, e1, e2⟩ := idx4 t
  funext a; apply Fin.ext
  match a with
  | ⟨0, _⟩ => show win0_4.index t (0 : Fin 3) * 256 + 1 * p.val = p.val; omega
  | ⟨1, _⟩ => show win0_4.index t (1 : Fin 3) * 8 + 1 * q.val = q.val; omega
  | ⟨2, _⟩ => show win0_4.index t (2 : Fin 3) * 256 + 1 * n.val = 256 * t.val + n.val; omega

theorem emb5 (t : Fin cfg0.N) (j : S4x512x4096.Idx) : ((cfg0.win 5).blk t).view.emb j = j := by
  obtain ⟨e0, e1, e2⟩ := idx5 t
  funext a; apply Fin.ext
  match a with
  | ⟨0, _⟩ => show win0_5.index t (0 : Fin 3) * 4 + 1 * (j 0).val = (j 0).val; omega
  | ⟨1, _⟩ => show win0_5.index t (1 : Fin 3) * 512 + 1 * (j 1).val = (j 1).val; omega
  | ⟨2, _⟩ => show win0_5.index t (2 : Fin 3) * 4096 + 1 * (j 2).val = (j 2).val; omega

theorem emb6 (t : Fin cfg0.N) (j : S1.Idx) : ((cfg0.win 6).blk t).view.emb j = j := by
  have e0 := idx6 t
  funext a; apply Fin.ext
  match a with
  | ⟨0, _⟩ => show win0_6.index t (0 : Fin 1) * 1 + 1 * (j 0).val = (j 0).val; omega

/-! ## The input blocks -/

theorem iblk0_eq (c : Dev nD) (t : Fin cfg0.N) : iblk m c 0 t = m ((c : Thread nD τ).loc main_arg3) := by
  rw [← V_main_arg3 m c]
  funext j; show V m c main_arg3 (((cfg0.win 0).blk t).view.emb j) = V m c main_arg3 j; rw [emb0]

theorem iblk1_eq (c : Dev nD) (t : Fin cfg0.N) : iblk m c 1 t = m ((c : Thread nD τ).loc main_arg0) := by
  rw [← V_main_arg0 m c]
  funext j; show V m c main_arg0 (((cfg0.win 1).blk t).view.emb j) = V m c main_arg0 j; rw [emb1]

theorem iblk2_eq (c : Dev nD) (t : Fin cfg0.N) (n : Fin 256) (k : Fin 4096) :
    (iblk m c 2 t : Vec Ideal S256x4096 .fp8e4m3) (ix2 n k) = (m ((c : Thread nD τ).loc main_arg1) : Vec Ideal S11008x4096 .fp8e4m3) (ix2 (col t n) k) := by
  rw [← V_main_arg1 m c]
  show V m c main_arg1 (((cfg0.win 2).blk t).view.emb (ix2 n k)) = _; rw [emb2]

/-- The one host line: the weight scales as one row. -/
theorem V_main_v0 (c : Dev nD) : V m c main_v0 = shapeCast S1x11008 (m ((c : Thread nD τ).loc main_arg2)) shapeCasts_S11008_S1x11008 := by
  unfold V
  after_results
  rfl

theorem iblk3_eq (c : Dev nD) (t : Fin cfg0.N) (z : Fin 1) (n : Fin 256) :
    (iblk m c 3 t : Vec Ideal S1x256 .f32) (ix2 z n)
      = (shapeCast S1x11008 (m ((c : Thread nD τ).loc main_arg2)) shapeCasts_S11008_S1x11008 : Vec Ideal S1x11008 .f32) (ix2 z (col t n)) := by
  rw [← V_main_v0 m c]
  show V m c main_v0 (((cfg0.win 3).blk t).view.emb (ix2 z n)) = _; rw [emb3]

/-! ## The results -/

/-- The reference's reciprocal scale, of the kernel's scale. -/
def invAt (c : Dev nD) : Elt Ideal .f32 := Cert.ReferenceIdeal.Host.inv (F := Ideal) (m ((c : Thread nD τ).loc main_arg3)) z1

/-- The reference's results, of the kernel's arguments. -/
def res4 (c : Dev nD) : Vec Ideal S256x8x11008 .bf16 :=
  Cert.ReferenceIdeal.Gen.k0_pay2 (m ((c : Thread nD τ).loc main_arg0)) (invAt m c) (m ((c : Thread nD τ).loc main_arg1))
    ((m ((c : Thread nD τ).loc main_arg3) : Vec Ideal S1 .f32) z1) (shapeCast S1x11008 (m ((c : Thread nD τ).loc main_arg2)) shapeCasts_S11008_S1x11008)
def res5 (c : Dev nD) : Vec Ideal S4x512x4096 .fp8e4m3 :=
  Cert.ReferenceIdeal.Gen.k0_pay1 (m ((c : Thread nD τ).loc main_arg0)) (invAt m c)
def res6 (c : Dev nD) : Vec Ideal S1 .f32 := fun _ => (m ((c : Thread nD τ).loc main_arg3) : Vec Ideal S1 .f32) z1

/-- The codes the first point leaves are the reference's. -/
theorem codesAt_eq (c : Dev nD) : codesAt m c = res5 m c := by
  unfold codesAt res5 invAt
  rw [iblk0_eq, iblk1_eq]
  exact Cert.Exponent.codes_eq _ z1 _

/-- The block point `t` writes back to the product is the reference's there. -/
theorem flushed4_eq (c : Dev nD) (t : Fin cfg0.N) :
    (dats m 0 c).flushed 4 t = ((cfg0.win 4).blk t).view.read (Elt Ideal) (res4 m c) := by
  show (cfg0.win 4).cut (grid0.coords t) ((dats m 0 c).after 4 t) = _
  rw [after0_4]
  funext j
  obtain ⟨p, q, n, rfl⟩ : ∃ (p : Fin 256) (q : Fin 8) (n : Fin 256), j = (ix3 p q n : S256x8x256.Idx) := ⟨j 0, j 1, j 2, eq_ix3 j⟩
  show yAt m c t (ix3 p q n) = res4 m c (((cfg0.win 4).blk t).view.emb (ix3 p q n))
  rw [emb4]
  unfold yAt res4
  rw [codesAt_eq, iblk0_eq]
  exact Cert.Product.elem_eq _ _ _ _ _ _ _ _ rfl p q n (col t n) (fun k => iblk2_eq m c t n k) (iblk3_eq m c t 0 n)

/-- The product after the run. -/
theorem final4 (c : Dev nD) : (dats m 0 c).arrAt 4 cfg0.N = res4 m c :=
  (dats m 0 c).arrAt_eq_of_cover 4 (res4 m c) (fun t _ => flushed4_eq m c t) fun i => by
    obtain ⟨p, q, n, rfl⟩ : ∃ (p : Fin 256) (q : Fin 8) (n : Fin 11008), i = (ix3 p q n : S256x8x11008.Idx) := ⟨i 0, i 1, i 2, eq_ix3 i⟩
    have hn := n.isLt
    let t : Fin cfg0.N := ⟨n.val / 256, by rw [show cfg0.N = 43 from N_0]; omega⟩
    refine ⟨t, (flush0_4 t), ?_⟩
    have h := ((cfg0.win 4).blk t).view.emb_mem_set (ix3 p q (⟨n.val % 256, by omega⟩ : Fin 256) : S256x8x256.Idx)
    rw [emb4] at h
    have e : col t ⟨n.val % 256, by omega⟩ = n := Fin.ext (by show 256 * (n.val / 256) + n.val % 256 = n.val; omega)
    rwa [e] at h

/-- The codes after the run. -/
theorem final5 (c : Dev nD) : (dats m 0 c).arrAt 5 cfg0.N = res5 m c :=
  (dats m 0 c).arrAt_eq_of_cover 5 (res5 m c) (fun t _ => by
      show (cfg0.win 5).cut (grid0.coords t) ((dats m 0 c).after 5 t) = _
      rw [after0_5, codesAt_eq]
      funext j
      show res5 m c j = res5 m c (((cfg0.win 5).blk t).view.emb j)
      rw [emb5]) fun i =>
    ⟨(⟨42, by decide⟩ : Fin cfg0.N), (flush0_5 _).mpr rfl, by
      have h := ((cfg0.win 5).blk (⟨42, by decide⟩ : Fin cfg0.N)).view.emb_mem_set i; rwa [emb5] at h⟩

/-- The scale after the run. -/
theorem final6 (c : Dev nD) : (dats m 0 c).arrAt 6 cfg0.N = res6 m c :=
  (dats m 0 c).arrAt_eq_of_cover 6 (res6 m c) (fun t _ => by
      show (cfg0.win 6).cut (grid0.coords t) ((dats m 0 c).after 6 t) = _
      rw [after0_6, iblk0_eq]
      rfl) fun i =>
    ⟨(⟨42, by decide⟩ : Fin cfg0.N), (flush0_6 _).mpr rfl, by
      have h := ((cfg0.win 6).blk (⟨42, by decide⟩ : Fin cfg0.N)).view.emb_mem_set i; rwa [emb6] at h⟩

end Cert.KernelIdeal.Arrays

end
-- ==== Proof.RefArrays.lean ====
module

public import proofs.«01_k».proof.Proof.RefHost

/-! The reference's three result arrays after its run, as functions of its arguments: each is one store of a whole array. -/

@[expose] public section

set_option maxRecDepth 16384

noncomputable section

namespace Cert.ReferenceIdeal.Arrays

open Cert.ReferenceIdeal Cert.ReferenceIdeal.Gen Cert.ReferenceIdeal.Value Idealize.ShloMosaic Idealize.ShloMosaic.TcCoe Idealize.SL.Sem

variable {F : FTy → Type} [FloatOps F]

/-- The only index of a one-word buffer. -/
abbrev z1 : S1.Idx := Shape.Idx.first (by decide : 0 < S1.numel)

theorem zero3 : (![0, 0, 0] : Fin 3 → ℕ) = fun _ => 0 := by decide
theorem zero2 : (![0, 0] : Fin 2 → ℕ) = fun _ => 0 := by decide
theorem zero1 : (![0] : Fin 1 → ℕ) = fun _ => 0 := by decide

/-- A load of a whole buffer reads the buffer's contents. -/
theorem load_whole {S : Shape} {sp : Space} {e : EltTy} (arg : Memref sig .tc sp S e) (harg : arg.IsWhole) {off : Fin S.rank → Nat}
    (h : off = fun _ => 0) (inb : ∀ a, off a + S.size a ≤ S.size a) (X : S.Idx → Elt F e) :
    arg.view.readAt (Elt F) (Rect.unit off S.size inb).toLoadRect (harg.unread X) = X := by
  rw [View.readAt_eq_ld, harg.read_unread, View.ld_unit_zero h]

/-- The body leaves the matrix product in output 5's buffer. -/
theorem out5_eq (c : Dev nD) (arg0 : Memref sig .tc .smem S1 .f32) (h0 : arg0.IsWhole) (arg1 : Memref sig .tc .smem S1 .f32) (h1 : arg1.IsWhole)
    (arg2 : Memref sig .tc .vmem S4x512x4096 .bf16) (h2 : arg2.IsWhole) (arg3 : Memref sig .tc .vmem S11008x4096 .fp8e4m3) (h3 : arg3.IsWhole)
    (arg4 : Memref sig .tc .vmem S1x11008 .f32) (h4 : arg4.IsWhole) (arg5 : Memref sig .tc .vmem S256x8x11008 .bf16) (h5 : arg5.IsWhole)
    (arg6 : Memref sig .tc .vmem S4x512x4096 .fp8e4m3) (h6 : arg6.IsWhole) (arg7 : Memref sig .tc .smem S1 .f32) (h7 : arg7.IsWhole)
    (x0 : Vec F S1 .f32) (x1 : Vec F S1 .f32) (x2 : Vec F S4x512x4096 .bf16) (x3 : Vec F S11008x4096 .fp8e4m3) (x4 : Vec F S1x11008 .f32) :
    out0_A_5 c arg0 h0 arg1 h1 arg2 h2 arg3 h3 arg4 h4 arg5 h5 arg6 h6 arg7 h7 x0 x1 x2 x3 x4 = k0_pay2 x2 (x1 z1) x3 (x0 z1) x4 := by
  unfold out0_A_5
  rw [View.read_writes_junk_eq_canon]
  unfold kernelRun0_A
  dsimp only
  sl_unfold_words
  refine (View.canon_unit_zero zero3 _ _).trans ?_
  rw [load_whole _ h2 zero3, load_whole _ h3 zero2, load_whole _ h4 zero2, load_whole _ h1 zero1, load_whole _ h0 zero1]

/-- The body leaves the codes in output 6's buffer. -/
theorem out6_eq (c : Dev nD) (arg0 : Memref sig .tc .smem S1 .f32) (h0 : arg0.IsWhole) (arg1 : Memref sig .tc .smem S1 .f32) (h1 : arg1.IsWhole)
    (arg2 : Memref sig .tc .vmem S4x512x4096 .bf16) (h2 : arg2.IsWhole) (arg3 : Memref sig .tc .vmem S11008x4096 .fp8e4m3) (h3 : arg3.IsWhole)
    (arg4 : Memref sig .tc .vmem S1x11008 .f32) (h4 : arg4.IsWhole) (arg5 : Memref sig .tc .vmem S256x8x11008 .bf16) (h5 : arg5.IsWhole)
    (arg6 : Memref sig .tc .vmem S4x512x4096 .fp8e4m3) (h6 : arg6.IsWhole) (arg7 : Memref sig .tc .smem S1 .f32) (h7 : arg7.IsWhole)
    (x0 : Vec F S1 .f32) (x1 : Vec F S1 .f32) (x2 : Vec F S4x512x4096 .bf16) (x3 : Vec F S11008x4096 .fp8e4m3) (x4 : Vec F S1x11008 .f32) :
    out0_A_6 c arg0 h0 arg1 h1 arg2 h2 arg3 h3 arg4 h4 arg5 h5 arg6 h6 arg7 h7 x0 x1 x2 x3 x4 = k0_pay1 x2 (x1 z1) := by
  unfold out0_A_6
  rw [View.read_writes_junk_eq_canon]
  unfold kernelRun0_A
  dsimp only
  sl_unfold_words
  refine (View.canon_unit_zero zero3 _ _).trans ?_
  rw [load_whole _ h2 zero3, load_whole _ h1 zero1]

/-- The body leaves the scale in output 7's buffer. -/
theorem out7_eq (c : Dev nD) (arg0 : Memref sig .tc .smem S1 .f32) (h0 : arg0.IsWhole) (arg1 : Memref sig .tc .smem S1 .f32) (h1 : arg1.IsWhole)
    (arg2 : Memref sig .tc .vmem S4x512x4096 .bf16) (h2 : arg2.IsWhole) (arg3 : Memref sig .tc .vmem S11008x4096 .fp8e4m3) (h3 : arg3.IsWhole)
    (arg4 : Memref sig .tc .vmem S1x11008 .f32) (h4 : arg4.IsWhole) (arg5 : Memref sig .tc .vmem S256x8x11008 .bf16) (h5 : arg5.IsWhole)
    (arg6 : Memref sig .tc .vmem S4x512x4096 .fp8e4m3) (h6 : arg6.IsWhole) (arg7 : Memref sig .tc .smem S1 .f32) (h7 : arg7.IsWhole)
    (x0 : Vec F S1 .f32) (x1 : Vec F S1 .f32) (x2 : Vec F S4x512x4096 .bf16) (x3 : Vec F S11008x4096 .fp8e4m3) (x4 : Vec F S1x11008 .f32) :
    out0_A_7 c arg0 h0 arg1 h1 arg2 h2 arg3 h3 arg4 h4 arg5 h5 arg6 h6 arg7 h7 x0 x1 x2 x3 x4 = fun _ => x0 z1 := by
  unfold out0_A_7
  rw [View.read_writes_junk_eq_canon]
  unfold kernelRun0_A
  dsimp only
  sl_unfold_words
  refine (View.canon_unit_zero zero1 _ _).trans ?_
  rw [load_whole _ h0 zero1]
  rfl

variable (m : (ℓ : Loc nD τ sig) → Buf (Elt F) ℓ) (ρ : Dev nD → PrngReg)

/-- Window 0's one block is its whole array. -/
theorem emb0 (t : Fin cfg0.N) (j : S1.Idx) : ((cfg0.win 0).blk t).view.emb j = j := by
  funext a; apply Fin.ext
  match a with
  | ⟨0, _⟩ => show 0 * 1 + 1 * (j 0).val = (j 0).val; omega

/-- Window 1's one block is its whole array. -/
theorem emb1 (t : Fin cfg0.N) (j : S1.Idx) : ((cfg0.win 1).blk t).view.emb j = j := by
  funext a; apply Fin.ext
  match a with
  | ⟨0, _⟩ => show 0 * 1 + 1 * (j 0).val = (j 0).val; omega

/-- Window 2's one block is its whole array. -/
theorem emb2 (t : Fin cfg0.N) (j : S4x512x4096.Idx) : ((cfg0.win 2).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 4096 + 1 * (j 2).val = (j 2).val; omega

/-- Window 3's one block is its whole array. -/
theorem emb3 (t : Fin cfg0.N) (j : S11008x4096.Idx) : ((cfg0.win 3).blk t).view.emb j = j := by
  funext a; apply Fin.ext
  match a with
  | ⟨0, _⟩ => show 0 * 11008 + 1 * (j 0).val = (j 0).val; omega
  | ⟨1, _⟩ => show 0 * 4096 + 1 * (j 1).val = (j 1).val; omega

/-- Window 4's one block is its whole array. -/
theorem emb4 (t : Fin cfg0.N) (j : S1x11008.Idx) : ((cfg0.win 4).blk t).view.emb j = j := by
  funext a; apply Fin.ext
  match a with
  | ⟨0, _⟩ => show 0 * 1 + 1 * (j 0).val = (j 0).val; omega
  | ⟨1, _⟩ => show 0 * 11008 + 1 * (j 1).val = (j 1).val; omega

/-- Window 5's one block is its whole array. -/
theorem emb5 (t : Fin cfg0.N) (j : S256x8x11008.Idx) : ((cfg0.win 5).blk t).view.emb j = j := by
  funext a; apply Fin.ext
  match a with
  | ⟨0, _⟩ => show 0 * 256 + 1 * (j 0).val = (j 0).val; omega
  | ⟨1, _⟩ => show 0 * 8 + 1 * (j 1).val = (j 1).val; omega
  | ⟨2, _⟩ => show 0 * 11008 + 1 * (j 2).val = (j 2).val; omega

/-- Window 6's one block is its whole array. -/
theorem emb6 (t : Fin cfg0.N) (j : S4x512x4096.Idx) : ((cfg0.win 6).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 4096 + 1 * (j 2).val = (j 2).val; omega

/-- Window 7's one block is its whole array. -/
theorem emb7 (t : Fin cfg0.N) (j : S1.Idx) : ((cfg0.win 7).blk t).view.emb j = j := by
  funext a; apply Fin.ext
  match a with
  | ⟨0, _⟩ => show 0 * 1 + 1 * (j 0).val = (j 0).val; omega

theorem iblk0_eq (c : Dev nD) (t : Fin cfg0.N) : iblk m c 0 t = V m c main_arg3 := by
  funext j; show V m c main_arg3 (((cfg0.win 0).blk t).view.emb j) = V m c main_arg3 j; rw [emb0]

theorem iblk1_eq (c : Dev nD) (t : Fin cfg0.N) : iblk m c 1 t = V m c main_v19 := by
  funext j; show V m c main_v19 (((cfg0.win 1).blk t).view.emb j) = V m c main_v19 j; rw [emb1]

theorem iblk2_eq (c : Dev nD) (t : Fin cfg0.N) : iblk m c 2 t = V m c main_arg0 := by
  funext j; show V m c main_arg0 (((cfg0.win 2).blk t).view.emb j) = V m c main_arg0 j; rw [emb2]

theorem iblk3_eq (c : Dev nD) (t : Fin cfg0.N) : iblk m c 3 t = V m c main_arg1 := by
  funext j; show V m c main_arg1 (((cfg0.win 3).blk t).view.emb j) = V m c main_arg1 j; rw [emb3]

theorem iblk4_eq (c : Dev nD) (t : Fin cfg0.N) : iblk m c 4 t = V m c main_v20 := by
  funext j; show V m c main_v20 (((cfg0.win 4).blk t).view.emb j) = V m c main_v20 j; rw [emb4]

/-- The reciprocal scale the reference's host lines compute. -/
def invAt (c : Dev nD) : Elt F .f32 := Host.inv (m ((c : Thread nD τ).loc main_arg3)) z1

/-- The reference's results as functions of its arguments. -/
def res5 (c : Dev nD) : Vec F S256x8x11008 .bf16 :=
  k0_pay2 (m ((c : Thread nD τ).loc main_arg0)) (invAt m c) (m ((c : Thread nD τ).loc main_arg1))
    ((m ((c : Thread nD τ).loc main_arg3) : Vec F S1 .f32) z1) (shapeCast S1x11008 (m ((c : Thread nD τ).loc main_arg2)) shapeCasts_S11008_S1x11008)
def res6 (c : Dev nD) : Vec F S4x512x4096 .fp8e4m3 := k0_pay1 (m ((c : Thread nD τ).loc main_arg0)) (invAt m c)
def res7 (c : Dev nD) : Vec F S1 .f32 := fun _ => (m ((c : Thread nD τ).loc main_arg3) : Vec F S1 .f32) z1

/-- What the one point writes back to result array 0. -/
theorem flushed5_eq (c : Dev nD) (t : Fin cfg0.N) :
    (dats m 0 c).flushed 5 t = ((cfg0.win 5).blk t).view.read (Elt F) (res5 m c) := by
  rw [flushed5_A, out5_eq, iblk0_eq, iblk1_eq, iblk2_eq, iblk3_eq, iblk4_eq, V_main_arg0, V_main_arg1, V_main_arg3, Host.V_main_v19, Host.V_main_v20]
  funext j
  show res5 m c j = res5 m c (((cfg0.win 5).blk t).view.emb j)
  rw [emb5]

/-- Result array 0 after the run. -/
theorem final5 (c : Dev nD) : (dats m 0 c).arrAt 5 cfg0.N = res5 m c :=
  (dats m 0 c).arrAt_eq_of_cover 5 (res5 m c) (fun t _ => flushed5_eq m c t) fun i =>
    ⟨(⟨0, by decide⟩ : Fin cfg0.N), flush0_5 _, by
      have h := ((cfg0.win 5).blk (⟨0, by decide⟩ : Fin cfg0.N)).view.emb_mem_set i; rwa [emb5] at h⟩

/-- What the one point writes back to result array 1. -/
theorem flushed6_eq (c : Dev nD) (t : Fin cfg0.N) :
    (dats m 0 c).flushed 6 t = ((cfg0.win 6).blk t).view.read (Elt F) (res6 m c) := by
  rw [flushed6_A, out6_eq, iblk1_eq, iblk2_eq, V_main_arg0, Host.V_main_v19]
  funext j
  show res6 m c j = res6 m c (((cfg0.win 6).blk t).view.emb j)
  rw [emb6]

/-- Result array 1 after the run. -/
theorem final6 (c : Dev nD) : (dats m 0 c).arrAt 6 cfg0.N = res6 m c :=
  (dats m 0 c).arrAt_eq_of_cover 6 (res6 m c) (fun t _ => flushed6_eq m c t) fun i =>
    ⟨(⟨0, by decide⟩ : Fin cfg0.N), flush0_6 _, by
      have h := ((cfg0.win 6).blk (⟨0, by decide⟩ : Fin cfg0.N)).view.emb_mem_set i; rwa [emb6] at h⟩

/-- What the one point writes back to result array 2. -/
theorem flushed7_eq (c : Dev nD) (t : Fin cfg0.N) :
    (dats m 0 c).flushed 7 t = ((cfg0.win 7).blk t).view.read (Elt F) (res7 m c) := by
  rw [flushed7_A, out7_eq, iblk0_eq, V_main_arg3]
  funext j
  show res7 m c j = res7 m c (((cfg0.win 7).blk t).view.emb j)
  rw [emb7]

/-- Result array 2 after the run. -/
theorem final7 (c : Dev nD) : (dats m 0 c).arrAt 7 cfg0.N = res7 m c :=
  (dats m 0 c).arrAt_eq_of_cover 7 (res7 m c) (fun t _ => flushed7_eq m c t) fun i =>
    ⟨(⟨0, by decide⟩ : Fin cfg0.N), flush0_7 _, by
      have h := ((cfg0.win 7).blk (⟨0, by decide⟩ : Fin cfg0.N)).view.emb_mem_set i; rwa [emb7] at h⟩

end Cert.ReferenceIdeal.Arrays

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.Same
public import proofs.«01_k».proof.Proof.KernelArrays
public import proofs.«01_k».proof.Proof.RefArrays
public import Idealize.ShloMosaic.Adequacy
public import Idealize.ShloMosaic.Init

@[expose] public section

noncomputable section

namespace Cert.Proof

open Idealize.ShloMosaic Idealize.ShloMosaic.TcCoe Idealize.SL.Sem

section Kernel

open Cert.KernelIdeal Cert.KernelIdeal.Gen Cert.KernelIdeal.Run Cert.KernelIdeal.Arrays

/-- The kernel's run on the extended reals: its three results, and its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v1_0) = res4 m c
      ∧ r.2.mem ((c : Thread nD τ).loc main_v1_1) = res5 m c
      ∧ r.2.mem ((c : Thread nD τ).loc main_v1_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 4).trans (final4 m c), ((h c).1 5).trans (final5 m c), ((h c).1 6).trans (final6 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 0).trans (((dats m 0 c).arrAt_in 0 rfl _).trans ((A_eq m c 0).trans (V_main_arg3 m c)))⟩)
    (run_main m g)

end Kernel

/-- The kernel and the reference end with equal results on the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Arrays.res4 m, Cert.KernelIdeal.Arrays.res5 m, Cert.KernelIdeal.Arrays.res6 m, kernel_run m g, ?_⟩
  refine (θ_run Cert.ReferenceIdeal.defs _ _).mono (fun r h c => ?_) (Cert.ReferenceIdeal.Value.run_blocks m' g')
  obtain ⟨h5, h6, h7, hargs⟩ := h c
  obtain ⟨a0, a1, a2, a3⟩ := hagree c
  refine ⟨h5.trans ?_, h6.trans ?_, h7.trans ?_, hargs⟩
  · rw [Cert.ReferenceIdeal.Arrays.final5]
    unfold Cert.ReferenceIdeal.Arrays.res5 Cert.ReferenceIdeal.Arrays.invAt
    rw [a0, a1, a2, a3]
    rfl
  · rw [Cert.ReferenceIdeal.Arrays.final6]
    unfold Cert.ReferenceIdeal.Arrays.res6 Cert.ReferenceIdeal.Arrays.invAt
    rw [a0, a3]
    rfl
  · rw [Cert.ReferenceIdeal.Arrays.final7]
    unfold Cert.ReferenceIdeal.Arrays.res7
    rw [a3]
    rfl

/-- Every claim: the three frames, the (empty) list of rewrites, and the equal results. -/
theorem claim : Cert.Claim :=
  ⟨Cert.Kernel.Gen.facts, Cert.KernelIdeal.Gen.facts, Cert.ReferenceIdeal.Gen.facts,
    fun m g _ => Cert.Same.frame m g, fun m g _ => Cert.KernelIdeal.Run.frame m g,
    fun m g _ => Cert.ReferenceIdeal.Gen.frame m g, trivial, algebraic⟩

end Cert.Proof

end
